-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S4096x512 : Shape := ⟨2, ![4096, 512]⟩
abbrev S_ : Shape := ⟨0, ![]⟩
abbrev S2048x512 : Shape := ⟨2, ![2048, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x1024, .f32⟩
  | .hbm, ⟨1, _⟩ => ⟨S4096x512, .f32⟩
  | .local _ .vmem, ⟨0, _⟩ => ⟨S2048x1024, .f32⟩
  | .local _ .vmem, ⟨1, _⟩ => ⟨S4096x512, .f32⟩
  | _, _ => ⟨S2048x1024, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32 : BitVec 32 := 2048#32
  let v18 : BitVec 32 := Scalar.muli v2 c2048_i32
  let c0_i32_12 : BitVec 32 := 0#32
  ![v18.toNat, 0]
def k0_off2 (d0 : Dev nD) : Fin 2 → Nat :=
  let c0_i32_13 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32 : BitVec 32 := 512#32
  let v17 : BitVec 32 := Scalar.muli v9 c512_i32
  ![0, v17.toNat]
def k0_dev2 (d0 : Dev nD) : Nat :=
  let c0_i32_9 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_8 : BitVec 32 := 16#32
  let v19 : BitVec 32 := Scalar.muli v9 c16_i32_8
  let v20 : BitVec 32 := Scalar.addi c0_i32_9 v19
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_10 : BitVec 32 := 4#32
  let v21 : BitVec 32 := Scalar.muli v5 c4_i32_10
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v23 : BitVec 32 := Scalar.muli v8 c1_i32_11
  let v24 : BitVec 32 := Scalar.addi v22 v23
  v24.toNat
def k0_off3 (d0 : Dev nD) : Fin 2 → Nat :=
  let c0 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_14 : BitVec 32 := 512#32
  let v27 : BitVec 32 := Scalar.muli v2 c512_i32_14
  let v28 : Index := Scalar.indexCast v27
  ![0, v28.toNat]
def k0_off4 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c2048_i32_15 : BitVec 32 := 2048#32
  let v31 : BitVec 32 := Scalar.muli v2 c2048_i32_15
  let v32 : Index := Scalar.indexCast v31
  let c0_16 : Index := 0#32
  ![v32.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Halves.lean ====
/-
  The two devices of an exchange and the halves of their buffers.

  The mesh is 2 x 4 x 4 and device `c` stands at `(c / 16, c / 4 % 4, c % 4)`. The kernel exchanges data along the first
  axis only: device `c` works with the device at the other end of that axis, `mate c`. Each device holds an input staging
  buffer of 2048 x 1024 and an output staging buffer of 4096 x 512. The input falls into two COLUMN halves, the one that
  stays on the device and the one that leaves for the mate; the output falls into two ROW halves, the one the device
  fills itself and the one the mate fills. This file names the four halves as the kernel addresses them, says which
  elements each has, and says that each pair of halves divides its buffer.
-/
module

public import proofs.«01_k».proof.Proof.Gen.KernelIdeal
public import proofs.«01_k».proof.Proof.Gen.KernelIdeal.Skeleton

@[expose] public section

noncomputable section

namespace Cert.Exchange

open Cert.KernelIdeal Cert.KernelIdeal.Gen
open Idealize.ShloMosaic Idealize.ShloMosaic.TcCoe Idealize.SL.Sem

/-! ## The mate -/

/-- The device at the other end of the first mesh axis. -/
def mate (c : Dev nD) : Dev nD := ⟨(c.val + 16) % 32, Nat.mod_lt _ (by decide)⟩

/-- The mate's mate is the device itself. -/
theorem mate_mate (c : Dev nD) : mate (mate c) = c := by revert c; decide

/-- Passing to the mate permutes the devices. -/
def mates : Dev nD ≃ Dev nD := ⟨mate, mate, mate_mate, mate_mate⟩

/-- The mate has the other coordinate on the first axis. -/
theorem mate_row (c : Dev nD) : (mate c).val / 16 = 1 - c.val / 16 := by revert c; decide

/-- The mate has the same coordinates on the other two axes. -/
theorem mate_lane (c : Dev nD) : (mate c).val % 16 = c.val % 16 := by revert c; decide

/-- The first coordinate is zero or one. -/
theorem row_le (c : Dev nD) : c.val / 16 ≤ 1 := by have := c.isLt; change c.val < 32 at this; omega

/-- The device that the kernel signals is the mate. -/
theorem signalled (c : Dev nD) : (⟨k0_dev1 c, k0_dev1_lt c⟩ : Dev nD) = mate c := Fin.ext (by
  have := c.isLt; change c.val < 32 at this
  refine (k0_dev1_eq c).trans ?_; show _ = (c.val + 16) % 32; omega)

/-- The device that the kernel sends to is the mate. -/
theorem addressed (c : Dev nD) : (⟨k0_dev2 c, k0_dev2_lt c⟩ : Dev nD) = mate c := Fin.ext (by
  have := c.isLt; change c.val < 32 at this
  refine (k0_dev2_eq c).trans ?_; show _ = (c.val + 16) % 32; omega)

/-! ## The halves -/

/-- The input staging buffer. -/
abbrev inM : Memref sig .tc .vmem S2048x1024 .f32 := Memref.whole cc0_stg0_0
/-- The output staging buffer. -/
abbrev outM : Memref sig .tc .vmem S4096x512 .f32 := Memref.whole cc0_stg1_0

/-- The columns of the input that leave device `c` for its mate. -/
abbrev leaving (c : Dev nD) : Memref sig .tc .vmem S2048x512 .f32 :=
  inM.slice (Rect.unit (s := S2048x1024) (k0_off2 c) S2048x512.size (k0_off2_inb c)) (fun _ => rfl)
/-- The columns of the input that stay on device `c`. -/
abbrev stayRect (c : Dev nD) : Rect S2048x1024 := Rect.unit (s := S2048x1024) (k0_off3 c) S2048x512.size (k0_off3_inb c)
/-- The rows of an output that come from device `c`, as a transfer of device `c` addresses them on the mate. -/
abbrev rowsOf (c : Dev nD) : Memref sig .tc .vmem S2048x512 .f32 :=
  outM.slice (Rect.unit (s := S4096x512) (k0_off1 c) S2048x512.size (k0_off1_inb c)) (fun _ => rfl)
/-- The same rows, as device `c`'s own store addresses them. -/
abbrev ownRect (c : Dev nD) : Rect S4096x512 := Rect.unit (s := S4096x512) (k0_off4 c) S2048x512.size (k0_off4_inb c)

/-- The elements of the input that leave `c`. -/
abbrev leaveSet (c : Dev nD) : Finset S2048x1024.Idx := (leaving c).view.set
/-- The elements of the input that stay on `c`. -/
abbrev staySet (c : Dev nD) : Finset S2048x1024.Idx := (inM.access (stayRect c)).set
/-- The elements of an output that come from `c`. -/
abbrev fromSet (c : Dev nD) : Finset S4096x512.Idx := (rowsOf c).view.set

/-- An element leaves `c` when its column lies in the half of the mate's number. -/
theorem mem_leaveSet {c : Dev nD} {i : S2048x1024.Idx} :
    i ∈ leaveSet c ↔ 512 - 512 * (c.val / 16) ≤ (i 1).val ∧ (i 1).val < 512 - 512 * (c.val / 16) + 512 := by
  rw [show leaveSet c = (Rect.unit (s := S2048x1024) (k0_off2 c) S2048x512.size (k0_off2_inb c)).set from View.set_slice_whole _ _,
    Rect.mem_set_unit, Fin.forall_fin_two, k0_off2_eq]
  have h0 : (i 0).val < 2048 := (i 0).isLt
  show (0 ≤ (i 0).val ∧ (i 0).val < 0 + 2048) ∧ (512 - 512 * (c.val / 16) ≤ (i 1).val ∧ (i 1).val < 512 - 512 * (c.val / 16) + 512) ↔ _
  omega

/-- An element stays on `c` when its column lies in the half of `c`'s own number. -/
theorem mem_staySet {c : Dev nD} {i : S2048x1024.Idx} :
    i ∈ staySet c ↔ 512 * (c.val / 16) ≤ (i 1).val ∧ (i 1).val < 512 * (c.val / 16) + 512 := by
  rw [show staySet c = (stayRect c).set from View.set_slice_whole _ _, Rect.mem_set_unit, Fin.forall_fin_two, k0_off3_eq]
  have h0 : (i 0).val < 2048 := (i 0).isLt
  show (0 ≤ (i 0).val ∧ (i 0).val < 0 + 2048) ∧ (512 * (c.val / 16) ≤ (i 1).val ∧ (i 1).val < 512 * (c.val / 16) + 512) ↔ _
  omega

/-- An element of an output comes from `c` when its row lies in the half of `c`'s number. -/
theorem mem_fromSet {c : Dev nD} {i : S4096x512.Idx} :
    i ∈ fromSet c ↔ 2048 * (c.val / 16) ≤ (i 0).val ∧ (i 0).val < 2048 * (c.val / 16) + 2048 := by
  rw [show fromSet c = (Rect.unit (s := S4096x512) (k0_off1 c) S2048x512.size (k0_off1_inb c)).set from View.set_slice_whole _ _,
    Rect.mem_set_unit, Fin.forall_fin_two, k0_off1_eq]
  have h1 : (i 1).val < 512 := (i 1).isLt
  show (2048 * (c.val / 16) ≤ (i 0).val ∧ (i 0).val < 2048 * (c.val / 16) + 2048) ∧ (0 ≤ (i 1).val ∧ (i 1).val < 0 + 512) ↔ _
  omega

/-- The rows that `c` stores itself are the rows that come from `c`. -/
theorem ownRect_set (c : Dev nD) : (outM.access (ownRect c)).set = fromSet c := by
  ext i
  rw [mem_fromSet, show (outM.access (ownRect c)).set = (ownRect c).set from View.set_slice_whole _ _, Rect.mem_set_unit,
    Fin.forall_fin_two, k0_off4_eq]
  have h1 : (i 1).val < 512 := (i 1).isLt
  show (2048 * (c.val / 16) ≤ (i 0).val ∧ (i 0).val < 2048 * (c.val / 16) + 2048) ∧ (0 ≤ (i 1).val ∧ (i 1).val < 0 + 512) ↔ _
  omega

/-- No element both stays and leaves. -/
theorem stay_leave_disjoint (c : Dev nD) : Disjoint (staySet c) (leaveSet c) :=
  Finset.disjoint_left.mpr fun i h h' => by
    have := row_le c; rw [mem_staySet] at h; rw [mem_leaveSet] at h'; omega

/-- Every element stays or leaves. -/
theorem stay_leave_cover (c : Dev nD) : staySet c ∪ leaveSet c = Finset.univ :=
  Finset.eq_univ_iff_forall.mpr fun i => by
    have := row_le c; have h1 : (i 1).val < 1024 := (i 1).isLt
    rw [Finset.mem_union, mem_staySet, mem_leaveSet]; omega

/-- No element comes both from `c` and from its mate. -/
theorem from_disjoint (c : Dev nD) : Disjoint (fromSet c) (fromSet (mate c)) :=
  Finset.disjoint_left.mpr fun i h h' => by
    have := row_le c; rw [mem_fromSet] at h; rw [mem_fromSet, mate_row] at h'; omega

/-- Every element of an output comes from `c` or from its mate. -/
theorem from_cover (c : Dev nD) : fromSet c ∪ fromSet (mate c) = Finset.univ :=
  Finset.eq_univ_iff_forall.mpr fun i => by
    have := row_le c; have h0 : (i 0).val < 4096 := (i 0).isLt
    rw [Finset.mem_union, mem_fromSet, mem_fromSet, mate_row]; omega

/-! ## What the exchange leaves in an output -/

/-- An index of the input from its two coordinates. -/
def inIdx (r k : ℕ) (hr : r < 2048) (hk : k < 1024) : S2048x1024.Idx := Shape.pair ⟨r, hr⟩ ⟨k, hk⟩

/-- The device that row `r` of device `c`'s output comes from: the one of number `r / 2048` on the first axis, with `c`'s
    coordinates on the others. -/
def source (c : Dev nD) (r : ℕ) (hr : r < 4096) : Dev nD := ⟨16 * (r / 2048) + c.val % 16, by show _ < 32; omega⟩

/-- The whole output of device `c` after the exchange, from the inputs of all devices: row `r` is row `r % 2048` of the
    input of the device that the row comes from, in the columns of `c`'s number. -/
def exchanged {α : Type} (x : Dev nD → S2048x1024.Idx → α) (c : Dev nD) : S4096x512.Idx → α := fun i =>
  x (source c (i 0).val (i 0).isLt)
    (inIdx ((i 0).val % 2048) (512 * (c.val / 16) + (i 1).val) (Nat.mod_lt _ (by decide))
      (by have := row_le c; have h1 : (i 1).val < 512 := (i 1).isLt; omega))

/-- `exchanged` at an index whose row is row `r` of the half that comes from device `d` and whose column is `k`. -/
theorem exchanged_at {α : Type} (x : Dev nD → S2048x1024.Idx → α) (c d : Dev nD) (i : S4096x512.Idx) (j : S2048x1024.Idx)
    (hd : d.val % 16 = c.val % 16) (hr : (i 0).val = 2048 * (d.val / 16) + (j 0).val) (hk : (j 1).val = 512 * (c.val / 16) + (i 1).val) :
    exchanged x c i = x d j := by
  have hj : (j 0).val < 2048 := (j 0).isLt
  have hd' : source c (i 0).val (i 0).isLt = d := Fin.ext (by show 16 * ((i 0).val / 2048) + c.val % 16 = d.val; omega)
  have hi : inIdx ((i 0).val % 2048) (512 * (c.val / 16) + (i 1).val) (Nat.mod_lt _ (by decide))
      (by have := row_le c; have h1 : (i 1).val < 512 := (i 1).isLt; omega) = j := by
    funext a; apply Fin.ext
    fin_cases a
    · change (i 0).val % 2048 = (j 0).val; omega
    · change 512 * (c.val / 16) + (i 1).val = (j 1).val; omega
  unfold exchanged; rw [hd', hi]

variable {F : FTy → Type}

/-- The mate's transfer, landed: on the rows that come from the mate, the output holds what the exchange leaves there,
    whatever was there before. -/
theorem landing (x : Dev nD → S2048x1024.Idx → Elt F .f32) (c : Dev nD) (f : S4096x512.Idx → Elt F .f32) (i : S4096x512.Idx)
    (hi : i ∈ fromSet (mate c)) :
    (rowsOf (mate c)).view.write (Elt F) f ((leaving (mate c)).view.read (Elt F) (x (mate c))) Finset.univ i = exchanged x c i := by
  obtain ⟨y, -, rfl⟩ := Finset.mem_map.mp hi
  refine (View.write_emb_of_mem _ _ (Finset.mem_univ y)).trans ?_
  have hc := row_le c
  refine (exchanged_at x c (mate c) ((rowsOf (mate c)).view.emb y) ((leaving (mate c)).view.emb y) ?_ ?_ ?_).symm
  · exact mate_lane c
  · show k0_off1 (mate c) 0 + 1 * (y 0).val = 2048 * ((mate c).val / 16) + (k0_off2 (mate c) 0 + 1 * (y 0).val)
    rw [k0_off1_eq, k0_off2_eq]
    show 2048 * ((mate c).val / 16) + 1 * (y 0).val = 2048 * ((mate c).val / 16) + (0 + 1 * (y 0).val); omega
  · show k0_off2 (mate c) 1 + 1 * (y 1).val = 512 * (c.val / 16) + (k0_off1 (mate c) 1 + 1 * (y 1).val)
    rw [k0_off1_eq, k0_off2_eq, mate_row]
    show 512 - 512 * (1 - c.val / 16) + 1 * (y 1).val = 512 * (c.val / 16) + (0 + 1 * (y 1).val); omega

/-- The device's own store: on the rows that come from `c` itself, the output holds what the exchange leaves there,
    whatever was there before. -/
theorem stored [FloatOps F] (x : Dev nD → S2048x1024.Idx → Elt F .f32) (c : Dev nD) (f : S4096x512.Idx → Elt F .f32) (i : S4096x512.Idx)
    (hi : i ∈ fromSet c) :
    (outM.access (ownRect c)).write (Elt F) f (k0_pay1 (inM.view.readAt (Elt F) (stayRect c).toLoadRect (x c))) Finset.univ i
      = exchanged x c i := by
  rw [← ownRect_set] at hi
  obtain ⟨y, -, rfl⟩ := Finset.mem_map.mp hi
  refine (View.write_emb_of_mem _ _ (Finset.mem_univ y)).trans ?_
  have hp : k0_pay1 (inM.view.readAt (Elt F) (stayRect c).toLoadRect (x c)) y = x c ((stayRect c).emb y) :=
    congrArg (inM.view.readAt (Elt F) (stayRect c).toLoadRect (x c)) (Shape.reshapeEquiv_self _ y)
  refine Eq.trans hp ?_
  have hc := row_le c
  refine (exchanged_at x c c ((outM.access (ownRect c)).emb y) ((stayRect c).emb y) rfl ?_ ?_).symm
  · show k0_off4 c 0 + 1 * (y 0).val = 2048 * (c.val / 16) + (k0_off3 c 0 + 1 * (y 0).val)
    rw [k0_off3_eq, k0_off4_eq]
    show 2048 * (c.val / 16) + 1 * (y 0).val = 2048 * (c.val / 16) + (0 + 1 * (y 0).val); omega
  · show k0_off3 c 1 + 1 * (y 1).val = 512 * (c.val / 16) + (k0_off4 c 1 + 1 * (y 1).val)
    rw [k0_off3_eq, k0_off4_eq]
    show 512 * (c.val / 16) + 1 * (y 1).val = 512 * (c.val / 16) + (0 + 1 * (y 1).val); omega

end Cert.Exchange

end
-- ==== Proof.Protocol.lean ====
/-
  The protocol of the exchange.

  Each device has three semaphores that matter. Its GATE is the runtime's barrier semaphore: the mate raises it by one
  when the mate's kernel has begun. Its DEPARTURE semaphore counts the words that its own transfer has read, its ARRIVAL
  semaphore the words that the mate's transfer has written. Each is raised once and waited for once, so each is a cell of
  one round with one duty:

  * the gate of `c` is paid by the mate, who hands over the rows of its own output that come from `c`, at whatever they
    hold, together with the knowledge that its arrival cell is open;
  * the departure cell of `c` is paid by `c`'s own transfer, which hands back the columns that it read;
  * the arrival cell of `c` is paid by the mate's transfer, which hands `c` the rows that come from the mate, holding what
    the exchange leaves there.

  This file states that schedule, what a device owes when the kernels begin, and the order of the waits (staging and
  departure lowest, then the gate, then arrival) by which no device waits for a mate that waits for it.
-/
module

public import proofs.«01_k».proof.Proof.Halves
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Two copies of the round bookkeeping: the staging pipeline's and the exchange's. -/
abbrev Ghost : Type := UR sig nD τ × UR sig nD τ

local notation "𝕄" => MT nD τ sig Unit (Elt F) ℕ Ghost ℕ

/-- The staging pipeline's copy. -/
abbrev embP : Emb (UR sig nD τ) (MT nD τ sig Unit (Elt F) ℕ Ghost ℕ) := embL
/-- The exchange's copy. -/
abbrev embX : Emb (UR sig nD τ) (MT nD τ sig Unit (Elt F) ℕ Ghost ℕ) := embR

/-! ## The cells -/

/-- The runtime's barrier semaphore. -/
abbrev gateSem : Sem sig := (SemArray.scalar (sig.barrier 0 rfl) : Sems sig S_).sem
/-- The semaphore that a device's own transfer raises as it reads. -/
abbrev departSem : DmaSem sig := (cc0_scratch0 : DmaSems sig S_).sem
/-- The semaphore that the mate's transfer raises as it writes. -/
abbrev arriveSem : DmaSem sig := (cc0_scratch1 : DmaSems sig S_).sem

/-- Device `c`'s gate. -/
abbrev gate (c : Dev nD) : GSem nD τ sig := ((c : Thread nD τ), .reg gateSem)
/-- Device `c`'s departure cell. -/
abbrev departure (c : Dev nD) : GSem nD τ sig := ((c : Thread nD τ), .dma departSem)
/-- Device `c`'s arrival cell. -/
abbrev arrival (c : Dev nD) : GSem nD τ sig := ((c : Thread nD τ), .dma arriveSem)

theorem depart_ne_gate : (SemLoc.dma departSem : SemLoc sig) ≠ .reg gateSem := fun h => by cases h
theorem arrive_ne_gate : (SemLoc.dma arriveSem : SemLoc sig) ≠ .reg gateSem := fun h => by cases h
theorem depart_ne_arrive : (SemLoc.dma departSem : SemLoc sig) ≠ .dma arriveSem := by decide

/-- A whole transfer of one half raises a semaphore by the same positive number on whichever device and in whichever
    buffer the half lies. -/
theorem exists_load : ∃ n : ℕ, 0 < n ∧ (∀ c, (rowsOf c).view.dmaCredit = n) ∧ ∀ c, (leaving c).view.dmaCredit = n :=
  ⟨(rowsOf 0).view.dmaCredit, View.dmaCredit_pos _ (by decide), fun _ => rfl, fun _ => rfl⟩

/-- That number. -/
def load : ℕ := Classical.choose exists_load
theorem load_pos : 0 < load := (Classical.choose_spec exists_load).1
theorem load_rows (c : Dev nD) : (rowsOf c).view.dmaCredit = load := (Classical.choose_spec exists_load).2.1 c
theorem load_leaving (c : Dev nD) : (leaving c).view.dmaCredit = load := (Classical.choose_spec exists_load).2.2 c

/-! ## What is held of a buffer -/

/-- Device `c` holds the elements `S` of its input at `f`. -/
def inAt (c : Dev nD) (S : Finset S2048x1024.Idx) (f : S2048x1024.Idx → Elt F .f32) : sProp 𝕄 :=
  ((c : Thread nD τ).loc cc0_stg0_0) ↦[S]{fullShare} f
/-- Device `c` holds the elements `S` of its output at `f`. -/
def outAt (c : Dev nD) (S : Finset S4096x512.Idx) (f : S4096x512.Idx → Elt F .f32) : sProp 𝕄 :=
  ((c : Thread nD τ).loc cc0_stg1_0) ↦[S]{fullShare} f

omit [FloatOps F] in
instance inAt_storable (c : Dev nD) (S f) : BI.Storable (upEmb : UEmb _ 𝕄) (inAt (F := F) c S f) := by unfold inAt; infer_instance
omit [FloatOps F] in
instance outAt_storable (c : Dev nD) (S f) : BI.Storable (upEmb : UEmb _ 𝕄) (outAt (F := F) c S f) := by unfold outAt; infer_instance

omit [FloatOps F] in
/-- The whole input is its two column halves. -/
theorem in_split (c : Dev nD) (f : S2048x1024.Idx → Elt F .f32) :
    (((c : Thread nD τ).loc cc0_stg0_0) ↦{fullShare} f : sProp 𝕄) ⊣⊢ iprop(inAt c (staySet c) f ∗ inAt c (leaveSet c) f) := by
  unfold inAt; rw [← stay_leave_cover c]; exact pointsTo_union (stay_leave_disjoint c)

omit [FloatOps F] in
/-- The whole output is its two row halves. -/
theorem out_split (c : Dev nD) (f : S4096x512.Idx → Elt F .f32) :
    (((c : Thread nD τ).loc cc0_stg1_0) ↦{fullShare} f : sProp 𝕄) ⊣⊢ iprop(outAt c (fromSet c) f ∗ outAt c (fromSet (mate c)) f) := by
  unfold outAt; rw [← from_cover c]; exact pointsTo_union (from_disjoint c)

omit [FloatOps F] in
/-- What is held of an output depends on the contents only on the elements held. -/
theorem outAt_congr (c : Dev nD) {S : Finset S4096x512.Idx} {f g : S4096x512.Idx → Elt F .f32} (h : ∀ i ∈ S, f i = g i) :
    (outAt c S f : sProp 𝕄) = outAt c S g := by unfold outAt; exact pointsTo_congr h

/-! ## The schedule -/

section Schedule

variable (x : Dev nD → S2048x1024.Idx → Elt F .f32)

/-- What the raise of `c`'s gate hands to `c`. -/
def gatePay (c : Dev nD) : sProp 𝕄 :=
  iprop((∃ f, outAt (mate c) (fromSet c) f) ∗ reached embX (arrival (mate c)) 0)
/-- What the mate's transfer hands to `c`. -/
def arrivePay (c : Dev nD) : sProp 𝕄 := outAt c (fromSet (mate c)) (exchanged x c)
/-- What `c`'s own transfer hands back to `c`. -/
def departPay (c : Dev nD) : sProp 𝕄 := inAt c (leaveSet c) (x c)

/-- The three cells of every device, one round and one duty each. -/
def plan : Rounds.Schedule (GSem nD τ sig) Unit 𝕄 where
  duties g r := if r = 0 ∧ g.1.2 = .tc ∧ (g.2 = .reg gateSem ∨ g.2 = .dma departSem ∨ g.2 = .dma arriveSem) then {()} else ∅
  unitless _ := False
  amount g _ _ := if g.2 = .reg gateSem then 1 else load
  payload g _ _ :=
    if g.2 = .reg gateSem then gatePay g.1.1
    else if g.2 = .dma arriveSem then arrivePay x g.1.1
    else if g.2 = .dma departSem then departPay x g.1.1
    else iprop(emp)
  amount_pos g _ _ _ := by
    split
    · exact Nat.one_pos
    · exact load_pos

instance plan_storable (g : GSem nD τ sig) (r : ℕ) (d : Unit) :
    BI.Storable (upEmb : UEmb _ 𝕄) ((plan (F := F) x).payload g r d) := by
  show BI.Storable upEmb (if g.2 = .reg gateSem then gatePay g.1.1 else if g.2 = .dma arriveSem then arrivePay x g.1.1
    else if g.2 = .dma departSem then departPay x g.1.1 else iprop(emp))
  unfold gatePay arrivePay departPay
  (repeat' split) <;> infer_instance

variable (c : Dev nD)

omit [FloatOps F] in
theorem duties_gate : (plan (F := F) x).duties (gate c) 0 = {()} := by dsimp only [plan]; exact if_pos ⟨rfl, rfl, .inl rfl⟩
omit [FloatOps F] in
theorem duties_departure : (plan (F := F) x).duties (departure c) 0 = {()} := by
  dsimp only [plan]; exact if_pos ⟨rfl, rfl, .inr (.inl rfl)⟩
omit [FloatOps F] in
theorem duties_arrival : (plan (F := F) x).duties (arrival c) 0 = {()} := by
  dsimp only [plan]; exact if_pos ⟨rfl, rfl, .inr (.inr rfl)⟩
omit [FloatOps F] in
/-- No cell has a second round. -/
theorem duties_after (g : GSem nD τ sig) (r : ℕ) (hr : 1 ≤ r) : (plan (F := F) x).duties g r = ∅ := by
  dsimp only [plan]; exact if_neg fun h => absurd h.1 (Nat.pos_iff_ne_zero.mp hr)

omit [FloatOps F] in
theorem amount_gate (d : Unit) : (plan (F := F) x).amount (gate c) 0 d = 1 := by dsimp only [plan]; exact if_pos rfl
omit [FloatOps F] in
theorem amount_departure (d : Unit) : (plan (F := F) x).amount (departure c) 0 d = load := by
  dsimp only [plan]; exact if_neg depart_ne_gate
omit [FloatOps F] in
theorem amount_arrival (d : Unit) : (plan (F := F) x).amount (arrival c) 0 d = load := by
  dsimp only [plan]; exact if_neg arrive_ne_gate

omit [FloatOps F] in
theorem expect_gate : (plan (F := F) x).expect (gate c) 0 = 1 := by
  unfold Schedule.expect Schedule.amountOf; rw [duties_gate, Finset.sum_singleton, amount_gate]
omit [FloatOps F] in
theorem expect_departure : (plan (F := F) x).expect (departure c) 0 = load := by
  unfold Schedule.expect Schedule.amountOf; rw [duties_departure, Finset.sum_singleton, amount_departure]
omit [FloatOps F] in
theorem expect_arrival : (plan (F := F) x).expect (arrival c) 0 = load := by
  unfold Schedule.expect Schedule.amountOf; rw [duties_arrival, Finset.sum_singleton, amount_arrival]

omit [FloatOps F] in
theorem payload_gate (d : Unit) : (plan (F := F) x).payload (gate c) 0 d = gatePay c := by dsimp only [plan]; exact if_pos rfl
omit [FloatOps F] in
theorem payload_arrival (d : Unit) : (plan (F := F) x).payload (arrival c) 0 d = arrivePay x c := by
  dsimp only [plan]; rw [if_neg arrive_ne_gate, if_pos rfl]
omit [FloatOps F] in
theorem payload_departure (d : Unit) : (plan (F := F) x).payload (departure c) 0 d = departPay x c := by
  dsimp only [plan]; rw [if_neg depart_ne_gate, if_neg depart_ne_arrive, if_pos rfl]

omit [FloatOps F] in
/-- All of the gate's round. -/
theorem all_gate : bigSep ((plan (F := F) x).duties (gate c) 0 \ ∅) (fun d => (plan (F := F) x).payload (gate c) 0 d) = gatePay c := by
  rw [Finset.sdiff_empty, duties_gate, bigSep_singleton, payload_gate]
omit [FloatOps F] in
/-- All of the departure cell's round. -/
theorem all_departure : bigSep ((plan (F := F) x).duties (departure c) 0 \ ∅) (fun d => (plan (F := F) x).payload (departure c) 0 d)
    = departPay x c := by
  rw [Finset.sdiff_empty, duties_departure, bigSep_singleton, payload_departure]
omit [FloatOps F] in
/-- All of the arrival cell's round. -/
theorem all_arrival : bigSep ((plan (F := F) x).duties (arrival c) 0 \ ∅) (fun d => (plan (F := F) x).payload (arrival c) 0 d)
    = arrivePay x c := by
  rw [Finset.sdiff_empty, duties_arrival, bigSep_singleton, payload_arrival]

end Schedule

/-! ## Debts and levels -/

/-- What device `c` owes when the kernels begin: one transfer to the mate's arrival cell and one raise of the mate's gate. -/
def debt (c : Dev nD) : CellTallies nD τ sig Unit := tallyAt (arrival (mate c)) () load + tallyAt (gate (mate c)) () 1

/-- Only a TensorCore's cells are waited for. -/
def idxs (g : GSem nD τ sig) : Finset Unit := if g.1.2 = .tc then {()} else ∅
/-- The order of the waits: staging and departure, the gate, arrival. -/
def level (g : GSem nD τ sig) (_ : Unit) : ℕ := if g.2 = .reg gateSem then 1 else if g.2 = .dma arriveSem then 2 else 0

theorem idxs_off (g : GSem nD τ sig) (h : g.1.2 ≠ .tc) : idxs g = ∅ := if_neg h
theorem idxs_on (c : Dev nD) (s : SemLoc sig) : () ∈ idxs ((c : Thread nD τ), s) := by
  rw [show idxs ((c : Thread nD τ), s) = {()} from if_pos rfl]; exact Finset.mem_singleton_self _

theorem level_gate (c : Dev nD) (d : Unit) : level (gate c) d = 1 := if_pos rfl
theorem level_arrival (c : Dev nD) (d : Unit) : level (arrival c) d = 2 := by
  unfold level; rw [if_neg arrive_ne_gate, if_pos rfl]
theorem level_other (c : Dev nD) (q : DmaSem sig) (hq : SemLoc.dma q ≠ .dma arriveSem) (d : Unit) :
    level ((c : Thread nD τ), .dma q) d = 0 := by
  unfold level; rw [if_neg (fun h => by cases h), if_neg hq]

/-- A debt of one cell is a debt to that cell. -/
theorem owed_one {g g' : GSem nD τ sig} {n : ℕ} {d : Unit} (h : 0 < (tallyAt g () n : CellTallies nD τ sig Unit) g' d) : g' = g := by
  by_contra hn
  rw [tallyAt_apply, if_neg (fun h' => hn h'.1)] at h
  exact absurd h (Nat.lt_irrefl 0)

/-- A device's debts are to the mate's arrival cell and to the mate's gate. -/
theorem owed_debt {c : Dev nD} {g : GSem nD τ sig} {d : Unit} (h : 0 < debt c g d) : g = arrival (mate c) ∨ g = gate (mate c) := by
  have hs : debt c g d = (tallyAt (arrival (mate c)) () load : CellTallies nD τ sig Unit) g d
      + (tallyAt (gate (mate c)) () 1 : CellTallies nD τ sig Unit) g d := by
    unfold debt; rw [Pi.add_apply, Finsupp.add_apply]
  rcases Nat.eq_zero_or_pos ((tallyAt (arrival (mate c)) () load : CellTallies nD τ sig Unit) g d) with h0 | h0
  · exact .inr (owed_one (n := 1) (d := d) (by omega))
  · exact .inl (owed_one h0)

omit [FloatOps F] in
/-- A device may wait for its staging whether it still owes everything or owes nothing. -/
theorem may_stage (c : Dev nD) (q : DmaSem sig) (hq : SemLoc.dma q ≠ .dma arriveSem) (O : CellTallies nD τ sig Unit)
    (hO : O = debt c ∨ O = 0) : (levAts idxs level : sProp 𝕄) ⊢ MayWait (c : Thread nD τ) (.dma q) () O := by
  rcases hO with rfl | rfl
  · refine MayOwe.of_cut (L := idxs) (lev := level) 0 (fun p hp => by rw [Finset.mem_singleton.mp hp]; exact idxs_on c _)
      (fun g d hg => by rcases owed_debt hg with rfl | rfl <;> exact idxs_on _ _)
      (fun p hp => by rw [Finset.mem_singleton.mp hp]; exact (level_other c q hq ()).le)
      (fun g d hg => by
        rcases owed_debt hg with rfl | rfl
        · rw [level_arrival]; decide
        · rw [level_gate]; decide)
  · rw [MayWait_zero]; iintro -; iempintro

omit [FloatOps F] in
/-- A device may wait at its gate while it owes the mate a transfer. -/
theorem may_gate (c : Dev nD) :
    (levAts idxs level : sProp 𝕄) ⊢ MayWait (c : Thread nD τ) (.reg gateSem) () (tallyAt (arrival (mate c)) () load) :=
  MayOwe.of_cut (L := idxs) (lev := level) 1 (fun p hp => by rw [Finset.mem_singleton.mp hp]; exact idxs_on c _)
    (fun g d hg => by rw [owed_one hg]; exact idxs_on _ _)
    (fun p hp => by rw [Finset.mem_singleton.mp hp]; exact (level_gate c ()).le)
    (fun g d hg => by rw [owed_one hg, level_arrival]; decide)

end Cert.Exchange

end
-- ==== Proof.Body.lean ====
/-
  One device's kernel, run.

  A device enters its kernel holding its two staging buffers whole, the records of the cells it works with, the right to
  pay each duty that is its own, and the credit to wait at its own three cells. Line by line:

  * it raises the mate's gate, handing over the rows of its own output that come from the mate;
  * it passes its own gate and so holds, on the mate, the rows that come from itself;
  * it starts the transfer of its leaving columns into those rows;
  * it copies its staying columns into its own rows, which the transfers do not touch;
  * it waits for its own transfer, which returns the columns, and for the mate's, which returns the rows it gave away,
    filled.

  At the end it holds both buffers whole again, the input as it was and the output as the exchange leaves it, and its
  three counters are zero (`kernel_run`). `body_obligation` says the same in the form that the staging pipeline asks for.
-/
module

public import proofs.«01_k».proof.Proof.Protocol

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

/-- The kernel calls itself nowhere, so it carries no variant. -/
abbrev 𝒱₀ : Variants := Variants.none

/-! ## What a device starts with -/

section Inputs

variable (x : Dev nD → S2048x1024.Idx → Elt F .f32)

/-- The records of the five cells that device `c` works with: its own three, the mate's gate, the mate's arrival cell. -/
def known (K : Dev nD × Fin 3 → ℕ) (c : Dev nD) : sProp 𝕄 :=
  iprop(cellInv embX (plan x) (K (c, 0)) (gate c) ∗ cellInv embX (plan x) (K (c, 1)) (departure c)
    ∗ cellInv embX (plan x) (K (c, 2)) (arrival c) ∗ cellInv embX (plan x) (K (mate c, 0)) (gate (mate c))
    ∗ cellInv embX (plan x) (K (mate c, 2)) (arrival (mate c)))

instance known_persistent (K : Dev nD × Fin 3 → ℕ) (c : Dev nD) : BI.Persistent (known (F := F) x K c) := by
  unfold known; infer_instance

/-- The cells whose first round device `c` knows to be open. -/
def openCells (c : Dev nD) : sProp 𝕄 :=
  iprop(reached embX (gate (mate c)) 0 ∗ reached embX (arrival (mate c)) 0 ∗ reached embX (departure c) 0 ∗ reached embX (arrival c) 0)

instance openCells_persistent (c : Dev nD) : BI.Persistent (openCells (F := F) c) := by unfold openCells; infer_instance

/-- Device `c` stands before the first round of each of its three cells. -/
def stands (c : Dev nD) : sProp 𝕄 :=
  iprop(atPos embX (gate c) 0 ∅ 0 ∗ atPos embX (departure c) 0 ∅ 0 ∗ atPos embX (arrival c) 0 ∅ 0)

/-- The three duties that device `c` pays: the mate's gate, the mate's arrival, its own departure. -/
def duties (c : Dev nD) : sProp 𝕄 :=
  iprop(dutyTok embX (gate (mate c)) 0 () ∗ dutyTok embX (arrival (mate c)) 0 () ∗ dutyTok embX (departure c) 0 ())

/-- A device's part in the protocol when its kernel begins. -/
def part (c : Dev nD) : sProp 𝕄 := iprop(∃ K, known x K c ∗ openCells c ∗ stands c ∗ duties c)

/-- The same with the credit for the two waits that others pay, and the order of the waits. -/
def ready (c : Dev nD) : sProp 𝕄 :=
  iprop(part x c ∗ cred (tallyAt (gate c) () 1) ∗ cred (tallyAt (arrival c) () load) ∗ levAts idxs level)

/-- A device's three counters are zero. -/
def quiet (c : Dev nD) : sProp 𝕄 := iprop(semVal (gate c) 0 ∗ semVal (departure c) 0 ∗ semVal (arrival c) 0)

/-! ## The transfer -/

omit [FloatOps F] in
/-- What device `c`'s transfer writes on the mate is what the exchange leaves there. -/
theorem delivered (c : Dev nD) (f : S4096x512.Idx → Elt F .f32) (i : S4096x512.Idx) (hi : i ∈ fromSet c) :
    (rowsOf c).view.write (Elt F) f ((leaving c).view.read (Elt F) (x c)) Finset.univ i = exchanged x (mate c) i := by
  have h := landing x (mate c) f i
  rw [mate_mate] at h
  exact h hi

variable (K : Dev nD × Fin 3 → ℕ)

/-- The transfer of device `c`, started: the leaving columns and the mate's rows go with it, and the credit to wait for
    the departure comes back. -/
theorem start_transfer (c n : Dev nD) (hn : n = mate c)
    {hsc : (rowsOf c : Memref sig (Dev.tc n : Thread nD τ).2.kind .vmem S2048x512 .f32).view.ref.isScScratch = false}
    {hsrc : (leaving c).view.WordExact} {hdst : (rowsOf c : Memref sig (Dev.tc n : Thread nD τ).2.kind .vmem S2048x512 .f32).view.WordExact}
    {hsem : DmaTarget.Typed .vmem (.dma arriveSem)
      (.remote (Dev.tc n : Thread nD τ) (rowsOf c : Memref sig (Dev.tc n : Thread nD τ).2.kind .vmem S2048x512 .f32) (.dma departSem) hsc)}
    {α : Type} {Q : α → sProp 𝕄} {k : PUnit → Prog (TpuEff nD τ sig (Elt F) Λ₀ .tc) α}
    (f : S4096x512.Idx → Elt F .f32) (W : Waits sig Unit) :
    iprop(cellInv embX (plan x) (K (c, 1)) (departure c) ∗ cellInv embX (plan x) (K (mate c, 2)) (arrival (mate c))
        ∗ inAt c (leaveSet c) (x c) ∗ outAt (mate c) (fromSet c) f
        ∗ owes (c : Thread nD τ) (tallyAt (arrival (mate c)) () load) W
        ∗ dutyTok embX (departure c) 0 () ∗ reached embX (departure c) 0
        ∗ dutyTok embX (arrival (mate c)) 0 () ∗ reached embX (arrival (mate c)) 0)
      ⊢ iprop(((cred (tallyAt (departure c) () load) ∗ owes (c : Thread nD τ) 0 W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (leaving c) (.remote (Dev.tc n : Thread nD τ) (rowsOf c) (.dma departSem) hsc) (.dma arriveSem) hsrc hdst hsem) k) Q) := by
  subst hn
  unfold inAt outAt
  exact Rounds.wp_send_pointsTo 𝒱₀ embX (plan x) (c : Thread nD τ) none (κ₁ := K (c, 1)) (κ₂ := K (mate c, 2))
    (c' := (mate c : Thread nD τ)) (src := leaving c) (dst := rowsOf c) (sS := .dma departSem) (sem := .dma arriveSem)
    (r₁ := 0) (r₂ := 0) (d₁ := ()) (d₂ := ()) (fd := f)
    (by rw [duties_departure]; exact Finset.mem_singleton_self _) (by rw [duties_arrival]; exact Finset.mem_singleton_self _)
    () () load (load_rows c) (amount_departure x c ()) (amount_arrival x (mate c) ()) 0 (by rw [zero_add]) (W := W)
    (by rw [payload_departure]; exact BI.Entails.refl _)
    (by
      rw [payload_arrival]; unfold arrivePay; rw [mate_mate]
      exact Entails.of_eq (outAt_congr (mate c) (delivered x c f)))

end Inputs

/-! ## The pipeline's data -/

variable (m : (ℓ : Loc nD τ sig) → Buf (Elt F) ℓ)

/-- Every device's input when the program begins. -/
def given (c : Dev nD) : S2048x1024.Idx → Elt F .f32 := m ((c : Thread nD τ).loc main_arg0)

/-- The launch as the staging pipeline sees it: the arrays as they are when the program begins; after the one point of the
    grid, the input's staging buffer as it was and the output's as the exchange leaves it; the device's part in the
    protocol before the point and its counters at zero after; its debts before and none after. -/
def dats (_ : Fin 1) (c : Dev nD) : Dat τ (Elt F) Unit ℕ Ghost ℕ cfg0 c where
  A w := m ((cfg0.win w).arr.view.loc (c : Thread nD τ))
  after w _ := match w with
    | ⟨0, _⟩ => given m c
    | ⟨1, _⟩ => exchanged (given m) c
  Φ t := match t with
    | ⟨0, _⟩ => ready (given m) c
    | ⟨_ + 1, _⟩ => quiet c
  q _ := fullShare
  owed t := match t with
    | ⟨0, _⟩ => debt c
    | ⟨_ + 1, _⟩ => 0

omit [FloatOps F] in
/-- The input's one block is the whole input. -/
theorem fetched (c : Dev nD) (t : Fin grid0.N) :
    (win0_0.blk t).view.read (Elt F) (m ((c : Thread nD τ).loc main_arg0)) = given m c := by
  funext y
  refine congrArg (m ((c : Thread nD τ).loc main_arg0)) (funext fun a => Fin.ext ?_)
  show 0 * _ + 1 * (y a).val = (y a).val
  omega

/-- A staging buffer held whole at known contents. -/
abbrev holds (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_eq_holds (c : Dev nD) (b : Ref sig .tc) (X : b.ty.Contents (Elt F)) :
    (owns (Ix := Unit) (Name := ℕ) (U := Ghost) (Lvl := ℕ) (c : Thread nD τ) (Memref.whole b) fullShare X : sProp 𝕄) = holds c b X := by
  unfold owns; simp only [Memref.view_whole, View.read_whole, View.set_whole]

/-- Before the point. -/
def before (c : Dev nD) : sProp 𝕄 :=
  iprop(ready (given m) c ∗ (dats m 0 c).owesAt () t0_0.castSucc
    ∗ (∃ d, holds c cc0_stg0_0 ((dats m 0 c).before (0 : Fin 2) t0_0 d))
    ∗ (∃ d, holds c cc0_stg1_0 ((dats m 0 c).before (1 : Fin 2) t0_0 d)))
/-- After the point. -/
def after (c : Dev nD) : sProp 𝕄 :=
  iprop(quiet c ∗ (dats m 0 c).owesAt () t0_0.succ ∗ holds c cc0_stg0_0 (given m c) ∗ holds c cc0_stg1_0 (exchanged (given m) c))

/-! ## The run of the kernel -/

set_option maxHeartbeats 1600000 in
/-- One device's kernel takes what is held before the point to what is held after it. -/
theorem kernel_run (c : Dev nD) (Kt : PUnit → sProp 𝕄) :
    iprop(before m c ∗ (after m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold before ready part known openCells stands duties
  iintro ⟨⟨⟨⟨%K, ⟨#Hgate, #Hdep, #Harr, #HgateM, #HarrM⟩, ⟨#Ogate, #OarrM, #Odep, #Oarr⟩, ⟨Sgate, Sdep, Sarr⟩, ⟨Dgate, Darr, Ddep⟩⟩, Cgate, Carr, #Hlev⟩, Ho, ⟨%d0, %g0, %hg0, Hx⟩, ⟨%d1, %g1, %hg1, Hy⟩⟩, Hk⟩
  have hx : g0 = given m c := by
    rw [hg0]; unfold Dat.before; rw [if_pos (fetch0_0 t0_0)]; exact fetched m c t0_0
  subst hx
  unfold Dat.owesAt Pipeline.owesWithin
  icases Ho with ⟨%W, %hW, HO⟩
  rw [show (dats m 0 c).owed t0_0.castSucc = debt c from rfl]
  -- the halves
  ihave Hx' := (in_split c (given m c)).1 $$ Hx
  icases Hx' with ⟨Xstay, Xleave⟩
  ihave Hy' := (out_split c g1).1 $$ Hy
  icases Hy' with ⟨Yown, Yfrom⟩
  -- the mate's gate is raised
  simp only [signalled c]
  iapply (Rounds.wp_signal 𝒱₀ embX (plan (given m)) (c : Thread nD τ) none (dst := (mate c : Thread nD τ)) (κ := K (mate c, 0))
      (by rw [duties_gate]; exact Finset.mem_singleton_self _) ((amount_gate (given m) (mate c) ()).trans (by decide)) ()
      (tallyAt (arrival (mate c)) () load) rfl) $$ [HO Dgate Yfrom]
  · isplitr; · iexact HgateM
    isplitl [HO]; · iexact HO
    isplitl [Dgate]; · iexact Dgate
    isplitl [Yfrom]
    · rw [payload_gate]; unfold gatePay; rw [mate_mate]
      isplitl [Yfrom]; · iexists g1; iexact Yfrom
      iexact Oarr
    · iexact Ogate
  iintro HO
  -- its own gate is passed
  iapply (Rounds.wp_wait_rest_token 𝒱₀ embX (plan (given m)) (c : Thread nD τ) none (κ := K (c, 0))
      (wpE_semWait_eq 𝒱₀ (c : Thread nD τ) none Set.univ) (Set.mem_univ _) () (O := tallyAt (arrival (mate c)) () load) (W := W)
      (R := 0) (m := 0) (T := ∅) (by rw [expect_gate]; decide)) $$ [Cgate HO Sgate]
  · isplitr; · iexact Hgate
    isplitl [Cgate]; · iexact Cgate
    isplitl [HO]; · iexact HO
    isplitr; · iapply (may_gate c); iexact Hlev
    iexact Sgate
  iintro ⟨HO, Sgate, -, Hpay⟩
  ihave Hp := (Entails.of_eq (all_gate (given m) c)) $$ Hpay
  unfold gatePay
  icases Hp with ⟨⟨%fm, Ymate⟩, -⟩
  -- the transfer starts
  iapply (start_transfer (given m) K c _ (addressed c) fm (insert (SemLoc.reg gateSem, ()) W)) $$ [Xleave Ymate HO Ddep Darr]
  · isplitr; · iexact Hdep
    isplitr; · iexact HarrM
    isplitl [Xleave]; · iexact Xleave
    isplitl [Ymate]; · iexact Ymate
    isplitl [HO]; · iexact HO
    isplitl [Ddep]; · iexact Ddep
    isplitr; · iexact Odep
    isplitl [Darr]; · iexact Darr
    iexact OarrM
  iintro ⟨Cdep, HO⟩
  -- the staying columns are copied
  unfold inAt outAt
  iapply (wp_load_rect 𝒱₀ (c : Thread nD τ) none Set.univ (m := inM) (r := stayRect c) (Finset.Subset.refl _)) $$ Xstay; iintro Xstay
  iapply (wp_load_rect 𝒱₀ (c : Thread nD τ) none Set.univ (m := outM) (r := ownRect c) (ownRect_set c).subset) $$ Yown; iintro Yown
  iapply (wp_store 𝒱₀ (c : Thread nD τ) none Set.univ (m := outM) (r := ownRect c) (Mk := Finset.univ)
    (by rw [View.setOn_univ]; exact (ownRect_set c).subset)) $$ Yown; iintro Yown
  -- on its own rows the output is now as the exchange leaves it
  ihave Yown' := (Entails.of_eq (outAt_congr c (stored (given m) c g1))) $$ [Yown]
  · unfold outAt; iexact Yown
  -- the columns come back
  iapply (Rounds.wp_wait_rest_token 𝒱₀ embX (plan (given m)) (c : Thread nD τ) none (κ := K (c, 1))
      (wpE_waitDma2_eq 𝒱₀ (c : Thread nD τ) none Set.univ) (Set.mem_univ _) () (O := 0) (W := insert (SemLoc.reg gateSem, ()) W)
      (R := 0) (m := 0) (T := ∅) (by rw [Nat.zero_add, expect_departure]; exact load_leaving c)) $$ [Cdep HO Sdep]
  · isplitr; · iexact Hdep
    isplitl [Cdep]; · rw [load_leaving]; iexact Cdep
    isplitl [HO]; · iexact HO
    isplitr; · rw [MayWait_zero]; iempintro
    iexact Sdep
  iintro ⟨HO, Sdep, -, Hpay⟩
  ihave Xleave := (Entails.of_eq (all_departure (given m) c)) $$ Hpay
  -- the given rows come back filled
  iapply (Rounds.wp_wait_rest_token 𝒱₀ embX (plan (given m)) (c : Thread nD τ) none (κ := K (c, 2))
      (wpE_waitDma2_eq 𝒱₀ (c : Thread nD τ) none Set.univ) (Set.mem_univ _) () (O := 0)
      (W := insert (SemLoc.dma departSem, ()) (insert (SemLoc.reg gateSem, ()) W)) (R := 0) (m := 0) (T := ∅)
      (by rw [Nat.zero_add, expect_arrival]; exact load_rows c)) $$ [Carr HO Sarr]
  · isplitr; · iexact Harr
    isplitl [Carr]; · rw [load_rows]; iexact Carr
    isplitl [HO]; · iexact HO
    isplitr; · rw [MayWait_zero]; iempintro
    iexact Sarr
  iintro ⟨HO, Sarr, -, Hpay⟩
  ihave Yfrom := (Entails.of_eq (all_arrival (given m) c)) $$ Hpay
  unfold departPay arrivePay
  -- the cells are closed
  imod (Rounds.cell_close embX (plan (given m)) (Set.mem_univ (K (c, 0))) (fun h => h) (R := 0 + 1) (duties_after (given m) (gate c))) $$ [Sgate] with Zgate
  · isplitr; · iexact Hgate
    iexact Sgate
  imod (Rounds.cell_close embX (plan (given m)) (Set.mem_univ (K (c, 1))) (fun h => h) (R := 0 + 1) (duties_after (given m) (departure c))) $$ [Sdep] with Zdep
  · isplitr; · iexact Hdep
    iexact Sdep
  imod (Rounds.cell_close embX (plan (given m)) (Set.mem_univ (K (c, 2))) (fun h => h) (R := 0 + 1) (duties_after (given m) (arrival c))) $$ [Sarr] with Zarr
  · isplitr; · iexact Harr
    iexact Sarr
  rw [wp_ret]; imodintro
  iapply Hk
  unfold after quiet Dat.owesAt Pipeline.owesWithin
  rw [show (dats m 0 c).owed t0_0.succ = 0 from rfl]
  isplitl [Zgate Zdep Zarr]
  · isplitl [Zgate]; · iexact Zgate
    isplitl [Zdep] <;> iassumption
  isplitl [HO]
  · iexists (insert (SemLoc.dma arriveSem, ()) (insert (SemLoc.dma departSem, ()) (insert (SemLoc.reg gateSem, ()) W)))
    isplitr; · ipureintro; exact fun _ _ => Or.inl trivial
    iexact HO
  isplitl [Xstay Xleave]
  · iexists (given m c); isplitr; · (ipureintro; rfl)
    iapply (in_split c (given m c)).2
    isplitl [Xstay]
    · unfold inAt; iexact Xstay
    · iexact Xleave
  iexists (exchanged (given m) c); isplitr; · (ipureintro; rfl)
  iapply (out_split c (exchanged (given m) c)).2
  isplitl [Yown'] <;> iassumption

set_option maxRecDepth 4000 in
/-- The same, as the staging pipeline asks for it. -/
theorem body_obligation (c : Dev nD) : BodyObligation (dats m 0 c) (defs₀ (F := F)) 𝒱₀ () Set.univ := fun t => by
  rw [show t = t0_0 from fin_N0 t, show (Finset.univ : Finset (Fin cfg0.W)) = (Finset.univ : Finset (Fin 2)) from rfl, bigSep_W0, bigSep_W0]
  simp only [owns_eq_holds]
  show before m c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => after m c)
  iintro H
  iapply (kernel_run m c fun _ => after m c)
  isplitl [H]; · iexact H
  iintro H; iexact H

end Cert.Exchange

end
-- ==== Proof.Launch.lean ====
/-
  The launch, and what is left when every device has finished.

  Before any kernel begins, the three cells of every device are opened and their records shared; each device receives
  the duties it pays (two of them stand at its mate's cells, so the duties are passed across each pair) and, against the
  debts of the mates, the credit to wait at its own gate and arrival cell (`opening`, `credits`). Then every device runs
  its kernel (`kernel_run`). Whatever the scheduling, all of them finish; each output array holds what the exchange
  leaves, each input array what it held, and every counter is zero (`run`).
-/
module

public import proofs.«01_k».proof.Proof.Body
public import Idealize.ShloMosaic.Lib.Pipeline.ValueKit
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ) (ρ : Dev nD → PrngReg)

/-! ## The cells, numbered -/

/-- A device's semaphores that matter, numbered: gate, departure, arrival. -/
abbrev semOf : Fin 3 → SemLoc sig := fun | 0 => .reg gateSem | 1 => .dma departSem | 2 => .dma arriveSem
/-- All cells, by device and number. -/
abbrev cellAt (p : Dev nD × Fin 3) : GSem nD τ sig := ((p.1 : Thread nD τ), semOf p.2)

theorem semOf_injective : Function.Injective semOf := by decide
theorem cellAt_injective : Function.Injective cellAt := fun p q h =>
  Prod.ext (congrArg (fun g : GSem nD τ sig => g.1.1) h) (semOf_injective (congrArg Prod.snd h))

/-- The cells of the exchange. -/
def cellSet : Finset (GSem nD τ sig) := Finset.univ.map ⟨cellAt, cellAt_injective⟩
/-- Their duties: one each. -/
def dutySet : Finset (GSem nD τ sig × ℕ × Unit) :=
  Finset.univ.map ⟨fun p => (cellAt p, 0, ()), fun _ _ h => cellAt_injective (congrArg Prod.fst h)⟩

/-- What the launch starts from: the staging pipeline's cells and the exchange's. -/
def seed : Ghost := (initOf (Pipeline.cells cfgs cellOf_inj) (Pipeline.launchToks cfgs cellOf_inj), initOf cellSet dutySet)

omit [FloatOps F] in
/-- A conjunction over three numbers, written out. -/
theorem three (Φ : Fin 3 → sProp 𝕄) : bigSep Finset.univ Φ = iprop(Φ 0 ∗ Φ 1 ∗ Φ 2) :=
  bigSep_univ_eq_bigSepL [0, 1, 2] (by decide) (by decide) Φ

/-- Device `c`'s share of a fresh start: the state of its cells, its place before each with the news that each is open,
    and the duties at its own cells. -/
def fresh (c : Dev nD) : sProp 𝕄 :=
  iprop((bigSep Finset.univ fun k => roundState embX (plan (given m)) (cellAt (c, k)) 0)
    ∗ (bigSep Finset.univ fun k => iprop(atPos embX (cellAt (c, k)) 0 ∅ 0 ∗ reached embX (cellAt (c, k)) 0))
    ∗ bigSep Finset.univ fun k => dutyTok embX (cellAt (c, k)) 0 ())

omit [FloatOps F] in
/-- The exchange's part of the seed is a fresh start for every device. -/
theorem fresh_start : BI.own (embX (initOf cellSet dutySet)) ⊢ (|==> bigSep Finset.univ (fresh m) : sProp 𝕄) := by
  have hC (Φ : GSem nD τ sig → sProp 𝕄) :
      bigSep cellSet Φ = bigSep Finset.univ fun c : Dev nD => bigSep Finset.univ fun k : Fin 3 => Φ (cellAt (c, k)) := by
    unfold cellSet; rw [bigSep_map, bigSep_univ_prod]; rfl
  have hD : bigSep dutySet (fun x => (dutyTok embX x.1 x.2.1 x.2.2 : sProp 𝕄))
      = bigSep Finset.univ fun c : Dev nD => bigSep Finset.univ fun k : Fin 3 => dutyTok embX (cellAt (c, k)) 0 () := by
    unfold dutySet; rw [bigSep_map, bigSep_univ_prod]; rfl
  have hF := Rounds.fund embX (plan (given m)) cellSet dutySet
  rw [hC, hC, hC, hD] at hF
  unfold fresh; simp only [bigSep_sep']
  iintro H
  imod hF $$ H with ⟨Hs, Hr, Hp, Hd⟩
  imodintro
  isplitl [Hs]; · iexact Hs
  isplitr [Hd]
  · isplitl [Hp] <;> iassumption
  iexact Hd

/-! ## Opening the cells -/

/-- The kernel's own semaphores. -/
abbrev ownSem : Fin 2 → SemLoc sig := fun | 0 => .dma departSem | 1 => .dma arriveSem
theorem ownSem_facts : Pipeline.OwnSemFacts cfg0.spec ownSem := by decide

omit [FloatOps F] in
theorem own_zero (c : Dev nD) :
    (Pipeline.ownSems0 (Ix := Unit) (Name := ℕ) (U := Ghost) (Lvl := ℕ) (Val := Elt F) (τ := τ) ownSem c : sProp 𝕄)
      = iprop(semVal (departure c) 0 ∗ semVal (arrival c) 0) := by
  rw [Pipeline.ownSems0_eq_of_list c ownSem [0, 1] (by decide) (by decide)]; rfl
omit [FloatOps F] in
theorem runtime_zero (c : Dev nD) : (unscopedSems0 c : sProp 𝕄) = semVal (gate c) 0 := by
  unfold unscopedSems0; rw [bigSep_eq_bigSepL_of_eq [SemLoc.reg gateSem] (by decide) (by decide)]; rfl

omit [FloatOps F] in
/-- A device's counters at zero and the state of its cells make its three cells' records. -/
theorem open_cells (c : Dev nD) :
    iprop(quiet c ∗ bigSep Finset.univ fun k => roundState embX (plan (given m)) (cellAt (c, k)) 0)
      ⊢ (|={Set.univ}=> bigSep Finset.univ fun k => iprop(∃ κ : ℕ, cellInv embX (plan (given m)) κ (cellAt (c, k))) : sProp 𝕄) := by
  rw [show (quiet c : sProp 𝕄) = bigSep Finset.univ fun k => semVal (cellAt (c, k)) 0 from by
    unfold quiet; exact (three fun k => semVal (cellAt (c, k)) 0).symm, ← bigSep_sep']
  exact (bigSep_mono fun k _ => (Rounds.body_intro embX (plan (given m)) (cellAt (c, k))).trans inv_alloc).trans (bigSep_fupd _ _)

/-- The records of all cells, and the news that all are open: what every device may know. -/
def shared (K : Dev nD × Fin 3 → ℕ) : sProp 𝕄 :=
  iprop((bigSep Finset.univ fun p => cellInv embX (plan (given m)) (K p) (cellAt p)) ∗ bigSep Finset.univ fun p => reached embX (cellAt p) 0)

instance shared_persistent (K : Dev nD × Fin 3 → ℕ) : BI.Persistent (shared m K) := by unfold shared; infer_instance

omit [FloatOps F] in
theorem shared_record (K : Dev nD × Fin 3 → ℕ) (p : Dev nD × Fin 3) : shared m K ⊢ cellInv embX (plan (given m)) (K p) (cellAt p) := by
  have h : (bigSep Finset.univ fun p => cellInv embX (plan (given m)) (K p) (cellAt p) : sProp 𝕄) ⊢ cellInv embX (plan (given m)) (K p) (cellAt p) :=
    bigSep_elim (Finset.mem_univ p)
  unfold shared; iintro ⟨H, -⟩; iapply h; iexact H
omit [FloatOps F] in
theorem shared_open (K : Dev nD × Fin 3 → ℕ) (p : Dev nD × Fin 3) : shared m K ⊢ reached embX (cellAt p) 0 := by
  have h : (bigSep Finset.univ fun p => reached embX (cellAt p) 0 : sProp 𝕄) ⊢ reached embX (cellAt p) 0 := bigSep_elim (Finset.mem_univ p)
  unfold shared; iintro ⟨-, H⟩; iapply h; iexact H

omit [FloatOps F] in
/-- From what all may know, a device's place and its duties, its part in the protocol. -/
theorem part_intro (K : Dev nD × Fin 3 → ℕ) (c : Dev nD) : iprop(shared m K ∗ (stands c ∗ duties c)) ⊢ part (given m) c := by
  unfold part known openCells
  iintro ⟨#H, Hs, Hd⟩
  iexists K
  isplitr
  · isplitr; · iapply (shared_record m K (c, 0)); iexact H
    isplitr; · iapply (shared_record m K (c, 1)); iexact H
    isplitr; · iapply (shared_record m K (c, 2)); iexact H
    isplitr; · iapply (shared_record m K (mate c, 0)); iexact H
    iapply (shared_record m K (mate c, 2)); iexact H
  isplitr
  · isplitr; · iapply (shared_open m K (mate c, 0)); iexact H
    isplitr; · iapply (shared_open m K (mate c, 2)); iexact H
    isplitr; · iapply (shared_open m K (c, 1)); iexact H
    iapply (shared_open m K (c, 2)); iexact H
  isplitl [Hs] <;> iassumption

omit [FloatOps F] in
/-- The duties at each device's own cells, passed across the pairs, are the duties that each device pays. -/
theorem pass_duties :
    (bigSep Finset.univ fun c : Dev nD => bigSep Finset.univ fun k : Fin 3 => (dutyTok embX (cellAt (c, k)) 0 () : sProp 𝕄))
      ⊢ bigSep Finset.univ fun c : Dev nD => duties c := by
  unfold duties; simp only [three]
  rw [bigSep_sep', bigSep_sep', bigSep_sep', bigSep_sep',
    bigSep_univ_equiv mates (fun c : Dev nD => (dutyTok embX (cellAt (c, 0)) 0 () : sProp 𝕄)),
    bigSep_univ_equiv mates (fun c : Dev nD => (dutyTok embX (cellAt (c, 2)) 0 () : sProp 𝕄))]
  iintro ⟨Hg, Hd, Ha⟩
  isplitl [Hg]; · iexact Hg
  isplitl [Ha]; · iexact Ha
  iexact Hd

omit [FloatOps F] in
/-- All devices together: with records made, everyone has their part. -/
theorem deal :
    (bigSep Finset.univ fun c : Dev nD => iprop((bigSep Finset.univ fun k => iprop(∃ κ : ℕ, cellInv embX (plan (given m)) κ (cellAt (c, k))))
        ∗ (bigSep Finset.univ fun k => iprop(atPos embX (cellAt (c, k)) 0 ∅ 0 ∗ reached embX (cellAt (c, k)) 0))
        ∗ bigSep Finset.univ fun k => dutyTok embX (cellAt (c, k)) 0 ()) : sProp 𝕄)
      ⊢ bigSep Finset.univ (part (given m)) := by
  simp only [bigSep_sep']
  rw [← bigSep_univ_prod (fun p : Dev nD × Fin 3 => iprop(∃ κ : ℕ, cellInv embX (plan (given m)) κ (cellAt p))),
    ← bigSep_univ_prod (fun p : Dev nD × Fin 3 => (reached embX (cellAt p) 0 : sProp 𝕄))]
  iintro ⟨HI, ⟨Hp, #HR⟩, Hd⟩
  ihave HK := (BI.bigSep_exists_pi Finset.univ (fun (p : Dev nD × Fin 3) (κ : ℕ) => (cellInv embX (plan (given m)) κ (cellAt p) : sProp 𝕄))) $$ HI
  icases HK with ⟨%K, #HI⟩
  ihave Hd' := (pass_duties (F := F)) $$ Hd
  iapply (show iprop(shared m K ∗ bigSep Finset.univ fun c : Dev nD => iprop(stands c ∗ duties c)) ⊢ bigSep Finset.univ (part (given m)) from
    (sep_mono_left (BI.bigSep_of_persistent Finset.univ (shared m K))).trans (by
      rw [← bigSep_sep']; exact bigSep_mono fun c _ => part_intro m K c))
  isplitr
  · unfold shared; isplitl; · iexact HI
    iexact HR
  · rw [bigSep_sep']
    isplitl [Hp]
    · unfold stands; simp only [three]; iexact Hp
    · iexact Hd'

omit [FloatOps F] in
/-- One device's counters at zero and its fresh start give the records of its cells. -/
theorem open_device (c : Dev nD) :
    iprop(Pipeline.ownSems0 (Ix := Unit) (Name := ℕ) (U := Ghost) (Lvl := ℕ) (Val := Elt F) (τ := τ) ownSem c ∗ unscopedSems0 c ∗ fresh m c)
      ⊢ |={Set.univ}=> iprop((bigSep Finset.univ fun k => iprop(∃ κ : ℕ, cellInv embX (plan (given m)) κ (cellAt (c, k))))
        ∗ (bigSep Finset.univ fun k => iprop(atPos embX (cellAt (c, k)) 0 ∅ 0 ∗ reached embX (cellAt (c, k)) 0))
        ∗ bigSep Finset.univ fun k => dutyTok embX (cellAt (c, k)) 0 ()) := by
  rw [own_zero, runtime_zero]; unfold fresh
  iintro ⟨⟨Vd, Va⟩, Vg, Hs, Hp, Hd⟩
  imod (open_cells m c) $$ [Vd Va Vg Hs] with HI
  · isplitr [Hs]
    · unfold quiet
      isplitl [Vg]; · iexact Vg
      isplitl [Vd] <;> iassumption
    · iexact Hs
  imodintro
  isplitl [HI]; · iexact HI
  isplitl [Hp] <;> iassumption

omit [FloatOps F] in
/-- Over all devices, the counters at zero and the fresh start give everyone their part. -/
theorem opening :
    (bigSep Finset.univ fun c => iprop(Pipeline.ownSems0 (Ix := Unit) (Name := ℕ) (U := Ghost) (Lvl := ℕ) (Val := Elt F) (τ := τ) ownSem c
        ∗ unscopedSems0 c ∗ fresh m c) : sProp 𝕄)
      ⊢ |={Set.univ}=> bigSep Finset.univ (part (given m)) :=
  ((bigSep_mono fun c _ => open_device m c).trans (bigSep_fupd _ _)).trans (BI.fupd_mono (deal m))

/-! ## The credit -/

omit [FloatOps F] in
/-- Since its mate owes a device one raise of its gate and one transfer, the device may wait for both. -/
theorem credits (c : Dev nD) :
    (Pipeline.launchCred debt c : sProp 𝕄) ⊢ iprop(cred (tallyAt (gate c) () 1) ∗ cred (tallyAt (arrival c) () load)) := by
  rw [show debt = fun d : Dev nD => (tallyAt (arrival (mate d)) () load : CellTallies nD τ sig Unit) + tallyAt (gate (mate d)) () 1 from rfl,
    Pipeline.launchCred_add]
  iintro ⟨Ha, Hg⟩
  isplitl [Hg]
  · iapply (Pipeline.launchCred_tallyAt (.reg gateSem) mate mate mate_mate mate_mate () 1 c); iexact Hg
  · iapply (Pipeline.launchCred_tallyAt (.dma arriveSem) mate mate mate_mate mate_mate () load c); iexact Ha

/-! ## Into the kernel and out of it -/

omit [FloatOps F] in
/-- What the launch gives a device is what it needs to be ready. -/
theorem ready_intro (c : Dev nD) :
    iprop(Pipeline.unscopedRestP Pipeline.Prefetch.none cfg0.spec c (fun b => m ((c : Thread nD τ).loc b)) ∗ levAts idxs level
        ∗ Pipeline.launchCred debt c ∗ prngReg c (ρ c) ∗ part (given m) c)
      ⊢ |={Set.univ}=> iprop(ready (given m) c ∗ emp) := by
  iintro ⟨-, Hl, Hc, -, Hp⟩
  ihave Hc' := (credits (F := F) c) $$ Hc
  icases Hc' with ⟨Hg, Ha⟩
  imodintro
  unfold ready
  isplitl
  · isplitl [Hp]; · iexact Hp
    isplitl [Hg]; · iexact Hg
    isplitl [Ha] <;> iassumption
  · iempintro

theorem enter (c : Dev nD) :
    iprop(ready (given m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = ready (given m) c from rfl]
  iintro ⟨H, -, -⟩
  iexact H

theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = quiet c from rfl, scopedRest0_eq, own_zero, runtime_zero]
  unfold quiet
  iintro ⟨Vg, Vd, Va⟩
  isplitl [Vg]; · iexact Vg
  isplitl [Vd Va]
  · isplitl [Vd] <;> iassumption
  iempintro

theorem stage_waits (c : Dev nD) : (levAts idxs level : sProp 𝕄) ⊢ Pipeline.cellsWaits cfgs (dats m) () 0 c :=
  Pipeline.cellsWaits_intro cfgs (dats m) () 0 c fun w s t =>
    may_stage c _ (by fin_cases w <;> fin_cases s <;> decide) _ (by
      rcases t with ⟨_ | _, ht⟩
      · exact .inl rfl
      · exact .inr rfl)

theorem whole_share (c : Dev nD) (w : Fin cfg0.W) : (dats m 0 c).share w = fullShare := by unfold Dat.share; split <;> rfl

/-! ## What the arrays hold at the end -/

/-- The output array holds what the exchange leaves. -/
theorem output_end (c : Dev nD) : (dats m 0 c).arrAt (1 : Fin 2) cfg0.N = exchanged (given m) c := by
  refine (dats m 0 c).arrAt_eq_of_after_last 1 t0_0 (by decide +kernel) _ fun j => ?_
  blk_simp
  rfl

/-- The input array holds what it held. -/
theorem input_end (c : Dev nD) : (dats m 0 c).arrAt (0 : Fin 2) cfg0.N = m ((c : Thread nD τ).loc main_arg0) :=
  (dats m 0 c).arrAt_in (0 : Fin 2) rfl _

/-! ## The run -/

set_option maxRecDepth 8000 in
/-- For any float values, from any memory with all counters at zero: every weakly fair execution of the program ends, and
    at its end each device's output array holds what the exchange of the input arrays leaves, each input array what it
    held, and every counter is zero. -/
theorem run : θ_run defs (onTc (τ := τ) (main (F := F))) ⟨m, fun _ => 0, ρ⟩ fun r =>
    (∀ c : Dev nD, r.2.mem ((c : Thread nD τ).loc main_v1) = exchanged (given m) c
      ∧ r.2.mem ((c : Thread nD τ).loc main_arg0) = m ((c : Thread nD τ).loc main_arg0)) ∧ r.2.sem = fun _ => 0 :=
  Pipeline.θ_run_region_owing_glob_pf (fun p => (cfgs p).toPCfg) (fun p => (cfgs p).toPCfg_adm) (dats m) () cellOf_inj (0 : Fin 1)
    winFacts0.to₀ ownSem_facts (Pipeline.PreFacts.none _) embP defs₀ 𝒱₀ m ρ main
    (hmain := fun _ => rfl)
    (hbody := body_obligation m) (hne := fun w => by fin_cases w <;> exact Nat.succ_pos _) (harr := arr_whole0) (hstage := stage_whole0)
    (hshare := whole_share m) (hdistinct := winFacts0.arr_inj)
    (O₀ := debt) (howed₀ := fun _ => rfl) (howedN := fun _ => rfl)
    (L := idxs) (lv := level) (hL := idxs_off) (hwaits := stage_waits m)
    (G := fresh m) (G' := part (given m)) (u₀ := seed)
    (hu₀ := by
      unfold seed
      iintro Hu
      ihave H := (ownU_pair _ _) $$ Hu
      icases H with ⟨HP, HX⟩
      imod (fresh_start m) $$ HX with HG
      imodintro
      isplitl [HP] <;> iassumption)
    (hglob := opening m)
    (hA := fun _ _ => rfl) (hpf := fun _ k => k.elim0)
    (X := ready (given m)) (Y := fun c => unscopedSems0 c) (Z := fun _ => iprop(emp))
    (hX := ready_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 (1 : Fin 2)).trans (output_end m c), ((h c).1 (0 : Fin 2)).trans (input_end m c)⟩,
      sem_eq_zero hs fun c => (h c).2.2⟩)

end Cert.Exchange

end
-- ==== Proof.Same.lean ====
/-
  The kernel and the idealized kernel are one program.

  The idealization replaced no operation, so the two printed programs have the same text and differ in their names only.
  This file says so of their kernel bodies, their body tables and their main functions, for any float values; a run
  proved of one is thereby a run of the other.
-/
module

public import proofs.«01_k».proof.Proof.Gen.Kernel
public import proofs.«01_k».proof.Proof.Gen.KernelIdeal

@[expose] public section

noncomputable section

namespace Cert.Exchange

open Idealize.ShloMosaic Idealize.SL.Sem

variable {F : FTy → Type} [FloatOps F]

/-- The tables of kernel bodies are the same. -/
theorem same_bodies : Cert.KernelIdeal.defs₀ (F := F) = Cert.Kernel.defs₀ (F := F) := by
  unfold Cert.KernelIdeal.defs₀ Cert.Kernel.defs₀
  refine congrArg Defs.onTc ?_
  funext l a
  fin_cases l
  rfl

/-- The tables of all bodies are the same. -/
theorem same_defs : Cert.KernelIdeal.defs (F := F) = Cert.Kernel.defs (F := F) :=
  congrArg (Pipeline.defs Cert.Kernel.pcfgs) same_bodies

/-- The main functions are the same. -/
theorem same_main : Cert.KernelIdeal.main (F := F) = Cert.Kernel.main (F := F) := rfl

/-- What holds after every run of the idealized kernel holds after every run of the kernel. -/
theorem run_same (s : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have e := same_defs (F := F)
  change θ_run (Cert.KernelIdeal.defs (F := F)) (onTc (τ := Cert.Kernel.τ) (Cert.Kernel.main (F := F))) s Q at h
  rw [e] at h
  exact h

end Cert.Exchange

end
-- ==== Proof.Reference.lean ====
/-
  The run of the reference.

  The reference computes on one device that holds the whole array of 4096 x 1024. An all-to-all moves values between
  devices and changes none, so the reference returns its argument and has no operation at all. This file says that it
  ends, that the array holds what it held, and that every counter is zero.
-/
module

public import proofs.«01_k».proof.Proof.Gen.ReferenceIdeal
public import Idealize.ShloMosaic.Lib.StableHlo.Run
public import Idealize.ShloMosaic.Lib.Quiescent

@[expose] public section

noncomputable section

namespace Cert.Exchange.Whole

open Cert.ReferenceIdeal Cert.ReferenceIdeal.Gen
open Idealize.ShloMosaic Idealize.ShloMosaic.StableHlo Idealize.SL.Sem

variable {F : FTy → Type} [FloatOps F]

/-- No buffer of the reference is scoped. -/
theorem no_scoped_buffer : (Finset.univ.filter fun b : Ref sig .tc => b.isScoped) = ∅ := by decide

/-- No semaphore of the reference is scoped: it declares none. -/
theorem no_scoped_semaphore : (Finset.univ.filter fun sm : SemLoc sig => sm.isScoped .tc) = ∅ := by decide

/-- For any float values, from any memory with all counters at zero: every weakly fair execution of the reference ends,
    the array holds what it held, and every counter is zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono (fun r h => ⟨fun c => h c main_arg0, sem_eq_zero_of_no_sems (by decide) r.2⟩)
    (run_seq no_scoped_buffer no_scoped_semaphore defs main (fun _ => []) (fun _ => rfl) (fun _ => trivial) m ρ)

end Cert.Exchange.Whole

end
-- ==== Proof.Value.lean ====
/-
  The exchange re-cuts the whole array.

  Before the exchange the array of 4096 x 1024 is cut along its rows: a device of number `p` on the first mesh axis holds
  rows `2048 p` to `2048 p + 2047`. After it the same array is cut along its columns: a device of number `p` holds columns
  `512 p` to `512 p + 511`. This file says so of the function `exchanged`, which the run leaves in the output arrays.
-/
module

public import proofs.«01_k».proof.Proof.Halves
public import Idealize.ShloMosaic.Lib.Layout

@[expose] public section

noncomputable section

namespace Cert.Exchange

open Cert.KernelIdeal
open Idealize.ShloMosaic Idealize.SL.Sem

/-- Along a dimension cut over the first mesh axis, a device's block has the device's number on that axis. -/
theorem number_on_first (c : Dev nD) : Layout.meshLin [2, 4, 4] c.val [0] = c.val / 16 := by revert c; decide

/-- Along a dimension that is not cut, a device's block is the only one. -/
theorem number_uncut (c : Dev nD) : Layout.meshLin [2, 4, 4] c.val [] = 0 := rfl

/-- If the inputs are the row blocks of an array, what the exchange leaves on a device is the device's column block of
    that array. -/
theorem exchanged_blocks {α : Type} (x : Dev nD → S2048x1024.Idx → α) (v : (⟨2, ![4096, 1024]⟩ : Shape).Idx → α)
    (hx : ∀ c, x c = Layout.blockN ⟨2, ![2048, 1024]⟩ ⟨2, ![4096, 1024]⟩ (Layout.meshBlock [2, 4, 4] ![[0], []] c) v) (c : Dev nD) :
    exchanged x c = Layout.blockN ⟨2, ![4096, 512]⟩ ⟨2, ![4096, 1024]⟩ (Layout.meshBlock [2, 4, 4] ![[], [0]] c) v := by
  funext i
  have hr : (i 0).val < 4096 := (i 0).isLt
  have hc := number_on_first c
  have hs := number_on_first (source c (i 0).val hr)
  have hv : (source c (i 0).val hr).val = 16 * ((i 0).val / 2048) + c.val % 16 := rfl
  unfold exchanged
  rw [hx, Layout.blockN_apply, Layout.blockN_apply]
  refine congrArg v (funext fun b => Fin.ext ?_)
  rw [Layout.TilesN.idx_val, Layout.TilesN.idx_val]
  fin_cases b
  · show Layout.meshLin [2, 4, 4] (source c (i 0).val hr).val [0] * 2048 + (i 0).val % 2048 = 0 * 4096 + (i 0).val
    omega
  · show 0 * 1024 + (512 * (c.val / 16) + (i 1).val) = Layout.meshLin [2, 4, 4] c.val [0] * 512 + (i 1).val
    omega

end Cert.Exchange

end
-- ==== Proof.lean ====
/-
  The certificate of the all-to-all kernel: it and its reading at exact values run, keep their arguments and leave every
  counter at zero, the reference does too, and the kernel leaves on each device the device's part of the reference's
  result. The run of the kernel is proved once, for any float values (Proof/Launch.lean). That the kernel as printed is
  the same program is in Proof/Same.lean, the run of the reference in Proof/Reference.lean, and that the exchanged pieces
  are the parts of the whole array in Proof/Value.lean.
-/
module

public import proofs.«01_k».proof.Defs
public import proofs.«01_k».proof.Proof.Gen.Kernel
public import proofs.«01_k».proof.Proof.Launch
public import proofs.«01_k».proof.Proof.Same
public import proofs.«01_k».proof.Proof.Reference
public import proofs.«01_k».proof.Proof.Value

@[expose] public section

noncomputable section

namespace Cert.Proof

open Idealize.ShloMosaic Idealize.SL.Sem

/-- The kernel at the bits of its floats ends, keeps its arguments and leaves every counter at zero. Its text is that of
    the idealized kernel, so this is the one run read at the bits. -/
theorem frame_kernel : Cert.quiescent_Kernel := fun m ρ _ =>
  Cert.Exchange.run_same _ _
    ((θ_run Cert.KernelIdeal.defs _ _).mono (fun _ h => ⟨fun c => (h.1 c).2, h.2⟩) (Cert.Exchange.run (F := Bits) m ρ))

/-- The kernel at exact values ends, keeps its arguments and leaves every counter at zero. -/
theorem frame_ideal : Cert.quiescent_KernelIdeal := fun m ρ _ =>
  (θ_run Cert.KernelIdeal.defs _ _).mono (fun _ h => ⟨fun c => (h.1 c).2, h.2⟩) (Cert.Exchange.run (F := Ideal) m ρ)

/-- The reference at exact values ends, keeps its argument and leaves every counter at zero. -/
theorem frame_reference : Cert.quiescent_ReferenceIdeal := fun m ρ _ => Cert.Exchange.Whole.run (F := Ideal) m ρ

/-- The kernel started on the row blocks of the reference's argument leaves the column blocks of the reference's
    result. -/
theorem value : Cert.algebraic_KernelIdeal_ReferenceIdeal := fun m ρ m' ρ' _ hx =>
  ⟨_, (θ_run Cert.KernelIdeal.defs _ _).mono
      (fun _ h c => ⟨(h.1 c).1.trans (Cert.Exchange.exchanged_blocks (Cert.Exchange.given m) _ hx c), (h.1 c).2⟩)
      (Cert.Exchange.run (F := Ideal) m ρ),
    (θ_run Cert.ReferenceIdeal.defs _ _).mono (fun _ h => ⟨h.1 0, h.1 0⟩) (Cert.Exchange.Whole.run (F := Ideal) m' ρ')⟩

/-- Everything that the certificate claims. -/
theorem claim : Cert.Claim := ⟨Cert.Kernel.Gen.facts, Cert.KernelIdeal.Gen.facts, Cert.ReferenceIdeal.Gen.facts,
  frame_kernel, frame_ideal, frame_reference, trivial, value⟩

end Cert.Proof

end
